-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_voxel" .f32 0x40A00000#32 ((67108864 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1200000x4 : Shape := ⟨2, ![1200000, 4]⟩
abbrev S125x1x9600 : Shape := ⟨3, ![125, 1, 9600]⟩
abbrev S9600x4 : Shape := ⟨2, ![9600, 4]⟩
abbrev S1x1x9600 : Shape := ⟨3, ![1, 1, 9600]⟩
abbrev S9600x1 : Shape := ⟨2, ![9600, 1]⟩
abbrev S9600 : Shape := ⟨1, ![9600]⟩
abbrev S1200000 : Shape := ⟨1, ![1200000]⟩
abbrev S_ : Shape := ⟨0, ![]⟩
abbrev S4194305 : Shape := ⟨1, ![4194305]⟩
abbrev S1200000x1 : Shape := ⟨2, ![1200000, 1]⟩
abbrev S4194305x4 : Shape := ⟨2, ![4194305, 4]⟩
abbrev S4194304x4 : Shape := ⟨2, ![4194304, 4]⟩
abbrev S4194304 : Shape := ⟨1, ![4194304]⟩
abbrev S4194304x1 : Shape := ⟨2, ![4194304, 1]⟩

abbrev nBuf : Space → Nat
  | .hbm => 22
  | .vmem => 4
  | .smem => 0
  | _ => 0

abbrev bufTy : (tb : Table) → Fin (tcTables nBuf tb) → BufTy
  | .hbm, ⟨0, _⟩ => ⟨S1200000x4, .f32⟩
  | .hbm, ⟨1, _⟩ => ⟨S125x1x9600, .i32⟩
  | .hbm, ⟨2, _⟩ => ⟨S1200000, .i32⟩
  | .hbm, ⟨3, _⟩ => ⟨S_, .f32⟩
  | .hbm, ⟨4, _⟩ => ⟨S1200000, .f32⟩
  | .hbm, ⟨5, _⟩ => ⟨S_, .f32⟩
  | .hbm, ⟨6, _⟩ => ⟨S4194305, .f32⟩
  | .hbm, ⟨7, _⟩ => ⟨S1200000x1, .i32⟩
  | .hbm, ⟨8, _⟩ => ⟨S4194305, .f32⟩
  | .hbm, ⟨9, _⟩ => ⟨S_, .f32⟩
  | .hbm, ⟨10, _⟩ => ⟨S4194305x4, .f32⟩
  | .hbm, ⟨11, _⟩ => ⟨S1200000x1, .i32⟩
  | .hbm, ⟨12, _⟩ => ⟨S4194305x4, .f32⟩
  | .hbm, ⟨13, _⟩ => ⟨S_, .f32⟩
  | .hbm, ⟨14, _⟩ => ⟨S4194305, .f32⟩
  | .hbm, ⟨15, _⟩ => ⟨S4194305, .f32⟩
  | .hbm, ⟨16, _⟩ => ⟨S4194304x4, .f32⟩
  | .hbm, ⟨17, _⟩ => ⟨S4194304, .f32⟩
  | .hbm, ⟨18, _⟩ => ⟨S4194304x1, .f32⟩
  | .hbm, ⟨19, _⟩ => ⟨S4194304x4, .f32⟩
  | .hbm, ⟨20, _⟩ => ⟨S4194304x4, .f32⟩
  | .hbm, ⟨21, _⟩ => ⟨S4194304, .f32⟩
  | .local _ .vmem, ⟨0, _⟩ => ⟨S9600x4, .f32⟩
  | .local _ .vmem, ⟨1, _⟩ => ⟨S9600x4, .f32⟩
  | .local _ .vmem, ⟨2, _⟩ => ⟨S1x1x9600, .i32⟩
  | .local _ .vmem, ⟨3, _⟩ => ⟨S1x1x9600, .i32⟩
  | _, _ => ⟨S1200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S9600x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9600 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "inv_voxel" => some ((67108864 / 13421773 : ℝ) : EReal)
  | _ => none
-- ==== ReferenceIdeal.lean ====
abbrev S1200000x4 : Shape := ⟨2, ![1200000, 4]⟩
abbrev S3 : Shape := ⟨1, ![3]⟩
abbrev S1200000x3 : Shape := ⟨2, ![1200000, 3]⟩
abbrev S1x3 : Shape := ⟨2, ![1, 3]⟩
abbrev S_ : Shape := ⟨0, ![]⟩
abbrev S1200000 : Shape := ⟨1, ![1200000]⟩
abbrev S1200000x1 : Shape := ⟨2, ![1200000, 1]⟩
abbrev S1 : Shape := ⟨1, ![1]⟩
abbrev S4194305 : Shape := ⟨1, ![4194305]⟩
abbrev S4194305x4 : Shape := ⟨2, ![4194305, 4]⟩
abbrev S4194304x4 : Shape := ⟨2, ![4194304, 4]⟩
abbrev S4194304 : Shape := ⟨1, ![4194304]⟩
abbrev S4194304x1 : Shape := ⟨2, ![4194304, 1]⟩

abbrev nBuf : Space → Nat
  | .hbm => 71
  | .vmem => 0
  | .smem => 0
  | _ => 0

abbrev bufTy : (tb : Table) → Fin (tcTables nBuf tb) → BufTy
  | .hbm, ⟨0, _⟩ => ⟨S1200000x4, .f32⟩
  | .hbm, ⟨1, _⟩ => ⟨S3, .f32⟩
  | .hbm, ⟨2, _⟩ => ⟨S3, .f32⟩
  | .hbm, ⟨3, _⟩ => ⟨S3, .i32⟩
  | .hbm, ⟨4, _⟩ => ⟨S1200000x3, .f32⟩
  | .hbm, ⟨5, _⟩ => ⟨S1x3, .f32⟩
  | .hbm, ⟨6, _⟩ => ⟨S1200000x3, .f32⟩
  | .hbm, ⟨7, _⟩ => ⟨S1200000x3, .f32⟩
  | .hbm, ⟨8, _⟩ => ⟨S1x3, .f32⟩
  | .hbm, ⟨9, _⟩ => ⟨S1200000x3, .f32⟩
  | .hbm, ⟨10, _⟩ => ⟨S1200000x3, .f32⟩
  | .hbm, ⟨11, _⟩ => ⟨S1200000x3, .f32⟩
  | .hbm, ⟨12, _⟩ => ⟨S1200000x3, .i32⟩
  | .hbm, ⟨13, _⟩ => ⟨S_, .i32⟩
  | .hbm, ⟨14, _⟩ => ⟨S1200000x3, .i32⟩
  | .hbm, ⟨15, _⟩ => ⟨S1200000x3, .i1⟩
  | .hbm, ⟨16, _⟩ => ⟨S1x3, .i32⟩
  | .hbm, ⟨17, _⟩ => ⟨S1200000x3, .i32⟩
  | .hbm, ⟨18, _⟩ => ⟨S1200000x3, .i1⟩
  | .hbm, ⟨19, _⟩ => ⟨S1200000x3, .i1⟩
  | .hbm, ⟨20, _⟩ => ⟨S_, .i1⟩
  | .hbm, ⟨21, _⟩ => ⟨S1200000, .i1⟩
  | .hbm, ⟨22, _⟩ => ⟨S1x3, .i32⟩
  | .hbm, ⟨23, _⟩ => ⟨S_, .i32⟩
  | .hbm, ⟨24, _⟩ => ⟨S1x3, .i32⟩
  | .hbm, ⟨25, _⟩ => ⟨S1x3, .i32⟩
  | .hbm, ⟨26, _⟩ => ⟨S_, .i32⟩
  | .hbm, ⟨27, _⟩ => ⟨S_, .i32⟩
  | .hbm, ⟨28, _⟩ => ⟨S1200000x3, .i32⟩
  | .hbm, ⟨29, _⟩ => ⟨S1200000x3, .i32⟩
  | .hbm, ⟨30, _⟩ => ⟨S1200000x3, .i32⟩
  | .hbm, ⟨31, _⟩ => ⟨S1200000x3, .i32⟩
  | .hbm, ⟨32, _⟩ => ⟨S1200000x1, .i32⟩
  | .hbm, ⟨33, _⟩ => ⟨S1200000, .i32⟩
  | .hbm, ⟨34, _⟩ => ⟨S1, .i32⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000, .i32⟩
  | .hbm, ⟨40, _⟩ => ⟨S1200000, .i32⟩
  | .hbm, ⟨41, _⟩ => ⟨S1, .i32⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000, .i32⟩
  | .hbm, ⟨47, _⟩ => ⟨S1200000, .i32⟩
  | .hbm, ⟨48, _⟩ => ⟨S_, .i32⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S_, .f32⟩
  | .hbm, ⟨53, _⟩ => ⟨S1200000, .f32⟩
  | .hbm, ⟨54, _⟩ => ⟨S_, .f32⟩
  | .hbm, ⟨55, _⟩ => ⟨S4194305, .f32⟩
  | .hbm, ⟨56, _⟩ => ⟨S1200000x1, .i32⟩
  | .hbm, ⟨57, _⟩ => ⟨S4194305, .f32⟩
  | .hbm, ⟨58, _⟩ => ⟨S_, .f32⟩
  | .hbm, ⟨59, _⟩ => ⟨S4194305x4, .f32⟩
  | .hbm, ⟨60, _⟩ => ⟨S1200000x1, .i32⟩
  | .hbm, ⟨61, _⟩ => ⟨S4194305x4, .f32⟩
  | .hbm, ⟨62, _⟩ => ⟨S_, .f32⟩
  | .hbm, ⟨63, _⟩ => ⟨S4194305, .f32⟩
  | .hbm, ⟨64, _⟩ => ⟨S4194305, .f32⟩
  | .hbm, ⟨65, _⟩ => ⟨S4194304x4, .f32⟩
  | .hbm, ⟨66, _⟩ => ⟨S4194304, .f32⟩
  | .hbm, ⟨67, _⟩ => ⟨S4194304x1, .f32⟩
  | .hbm, ⟨68, _⟩ => ⟨S4194304x4, .f32⟩
  | .hbm, ⟨69, _⟩ => ⟨S4194304x4, .f32⟩
  | .hbm, ⟨70, _⟩ => ⟨S4194304, .f32⟩
  | _, _ => ⟨S1200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_call1_v0 : Ref sig .tc := ⟨.hbm, 49, rfl⟩
abbrev main_call1_v1 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.Voxel.lean ====
/-
  The scalar mathematics of the voxel index: the cell of one coordinate, the word of one point, and the equations between
  the two programs' ways of computing them.
-/
module

public import Idealize.ShloMosaic.Lib.Pointwise

@[expose] public section

noncomputable section

namespace Cert.Voxel

open Idealize.ShloMosaic

/-- The cell of the coordinate `x` on an axis that starts at `lo`, with cells of width `w`: the floor of `(x - lo) / w`,
    as a 32-bit integer. -/
def cell (lo w x : EReal) : BitVec 32 := Ideal.fptosi 32 (Ideal.liftRound Int.floor (Ideal.div (x - lo) w))

/-- A cell number `i` lies on an axis of `g` cells. -/
def onAxis (g i : BitVec 32) : BitVec 1 := IntOp.andi (IntOp.cmpi .sge i 0#32) (IntOp.cmpi .slt i g)

/-- A cell number clipped to the axis whose last cell is `top`. -/
def clip (top i : BitVec 32) : BitVec 32 := IntOp.minsi top (IntOp.maxsi 0#32 i)

/-- The linear index of the cell `(a, b, c)` in the grid of 512 × 512 × 16 cells, and 4194304, the number of cells, for a
    point outside the grid. -/
def word (a b c : BitVec 32) : BitVec 32 :=
  Scalar.select (IntOp.andi (IntOp.andi (onAxis 512#32 a) (onAxis 512#32 b)) (onAxis 16#32 c))
    (IntOp.addi (IntOp.muli (IntOp.addi (IntOp.muli (clip 511#32 a) 512#32) (clip 511#32 b)) 16#32) (clip 15#32 c)) 4194304#32

/-- The start of the first two axes, −51.2 in binary32. -/
def loXY : EReal := Ideal.ofBits .f32 0xC24CCCCD#32
/-- The start of the third axis, −5. -/
def loZ : EReal := Ideal.ofBits .f32 0xC0A00000#32
/-- The width of a cell on the first two axes, 0.2 in binary32. -/
def widthXY : EReal := Ideal.ofBits .f32 0x3E4CCCCD#32
/-- The height of a cell, 0.5. -/
def widthZ : EReal := Ideal.ofBits .f32 0x3F000000#32

/-- The word of the point `(x, y, z)`. -/
def point (x y z : EReal) : BitVec 32 := word (cell loXY widthXY x) (cell loXY widthXY y) (cell loZ widthZ z)

/-- The binary32 number 0.2 is 13421773 / 67108864. -/
theorem widthXY_eq : widthXY = ((13421773 / 67108864 : ℝ) : EReal) := by
  simp [widthXY, Ideal.ofBits, Ideal.ieee, -EReal.coe_mul]; norm_num

/-- The binary32 number 0.5 is 1 / 2. -/
theorem widthZ_eq : widthZ = ((1 / 2 : ℝ) : EReal) := by
  simp [widthZ, Ideal.ofBits, Ideal.ieee, -EReal.coe_mul]; norm_num

/-- The binary32 number 2.0 is 2. -/
theorem two_eq : Ideal.ofBits .f32 0x40000000#32 = ((2 : ℝ) : EReal) := by
  simp [Ideal.ofBits, Ideal.ieee, -EReal.coe_mul]; norm_num

/-- Division by the cell's width is multiplication by its exact reciprocal. -/
theorem div_widthXY (x : EReal) : Ideal.div x widthXY = x * ((67108864 / 13421773 : ℝ) : EReal) := by
  rw [widthXY_eq, Ideal.div_coe (by norm_num)]; norm_num

/-- Division by one half is multiplication by two. -/
theorem div_widthZ (x : EReal) : Ideal.div x widthZ = x * ((2 : ℝ) : EReal) := by
  rw [widthZ_eq, Ideal.div_coe (by norm_num)]; norm_num

/-- The linear index by strides (8192, 16, 1) is the one by successive multiplication (512, then 16). -/
theorem linear (a b c : BitVec 32) : a * 8192#32 + b * 16#32 + c * 1#32 = (a * 512#32 + b) * 16#32 + c := by
  have h : (8192#32 : BitVec 32) = 512#32 * 16#32 := rfl
  rw [h, BitVec.mul_one, BitVec.add_mul, BitVec.mul_assoc]

/-- The linear index as `word` has it, by strides. -/
theorem word_strides (a b c : BitVec 32) : word a b c =
    Scalar.select (IntOp.andi (IntOp.andi (onAxis 512#32 a) (onAxis 512#32 b)) (onAxis 16#32 c))
      (IntOp.addi (IntOp.addi (IntOp.muli (clip 511#32 a) 8192#32) (IntOp.muli (clip 511#32 b) 16#32))
        (IntOp.muli (clip 15#32 c) 1#32)) 4194304#32 :=
  congrArg (fun w => Scalar.select _ w 4194304#32) (linear (clip 511#32 a) (clip 511#32 b) (clip 15#32 c)).symm

end Cert.Voxel

end
-- ==== Proof.Block.lean ====
/-
  What one grid point of the kernel computes: the words of the 9600 points of its block.
-/
module

public import proofs.«01_k».proof.Proof.Gen.KernelIdeal.Frame
public import proofs.«01_k».proof.Proof.Voxel
public import Idealize.ShloMosaic.Lib.Pipeline.ValueKit

@[expose] public section

set_option maxRecDepth 16384

noncomputable section

namespace Cert.Voxel

open Idealize.ShloMosaic Cert.KernelIdeal

/-- The named reciprocal of the cell's width at the extended reals. -/
theorem inv_voxel : Named.named (F := Ideal) (φ := .f32) Cert.KernelIdeal.κ "inv_voxel" 0x40A00000#32 = ((67108864 / 13421773 : ℝ) : EReal) :=
  IdealRules.named_const.ideal_named_scalar _ _ _ _ rfl

/-- The word stored for row `j 2` of the block `x` is the word of the point in that row: the coordinates are columns 0, 1
    and 2, and multiplying by the reciprocals of the widths is dividing by the widths. -/
theorem payload (x : Vec Ideal S9600x4 .f32) (j : S1x1x9600.Idx) :
    Gen.k0_pay1 (Gen.k0_pay4 x) (Gen.k0_pay5 x) (Gen.k0_pay6 x) j
      = point (x (ix2 (j 2) 0)) (x (ix2 (j 2) 1)) (x (ix2 (j 2) 2)) := by
  pointwise [Gen.k0_pay1, Gen.k0_pay2, Gen.k0_pay3, Gen.k0_pay4, Gen.k0_pay5, Gen.k0_pay6]
  rw [point, word_strides]
  simp only [cell, div_widthXY, div_widthZ, inv_voxel, two_eq]
  rfl

end Cert.Voxel

end
-- ==== Proof.Words.lean ====
/-
  The array the kernel's region leaves: the word of every point, block by block.
-/
module

public import proofs.«01_k».proof.Proof.Block

@[expose] public section

set_option maxRecDepth 16384

noncomputable section

namespace Cert.Voxel

open Idealize.ShloMosaic Idealize.ShloMosaic.Pipeline Cert.KernelIdeal

/-- The words of all points: point `i`'s coordinates are the first three entries of row `i`. -/
def words (x : FVec Ideal S1200000x4 .f32) : IVec S1200000 32 :=
  fun i => point (x (ix2 (i 0) 0)) (x (ix2 (i 0) 1)) (x (ix2 (i 0) 2))

/-- The words laid out as the region writes them: 125 blocks of 9600. -/
def blocks (x : FVec Ideal S1200000x4 .f32) : IVec S125x1x9600 32 :=
  fun i => words x (ix1 ⟨(i 0 : ℕ) * 9600 + (i 2 : ℕ), by have h0 : (i 0 : ℕ) < 125 := (i 0).isLt; have h2 : (i 2 : ℕ) < 9600 := (i 2).isLt; omega⟩)

/-- The row-major position of entry `r` of block `q`. -/
theorem position (q : Fin 125) (r : Fin 9600) : (S125x1x9600.rowMajor (ix3 q 0 r)).val = (q : ℕ) * 9600 + (r : ℕ) := by
  have h : (S125x1x9600.rowMajor (ix3 q 0 r)).val = (q : ℕ) * 9600 + ((0 : Fin 1) : ℕ) * 9600 + (r : ℕ) :=
    rowMajor_val3 (d := ![125, 1, 9600]) (ix3 q 0 r) 9600 9600 rfl rfl
  rw [h]
  norm_num

/-- The row-major position of an entry of a vector is the entry's number. -/
theorem position1 (i : Fin 1200000) : (S1200000.rowMajor (ix1 i)).val = (i : ℕ) := rowMajor_val1 (d := ![1200000]) (ix1 i)

/-- The blocks read in row-major order are the words. -/
theorem shapeCast_blocks (x : FVec Ideal S1200000x4 .f32) (h : S125x1x9600.ShapeCasts S1200000) :
    shapeCast S1200000 (blocks x) h = words x := by
  funext i
  idx_vars i
  have hi : (i0 : ℕ) < 1200000 := i0.isLt
  obtain ⟨q, r, e⟩ : ∃ (q : Fin 125) (r : Fin 9600), (q : ℕ) * 9600 + (r : ℕ) = i0 :=
    ⟨⟨(i0 : ℕ) / 9600, by omega⟩, ⟨(i0 : ℕ) % 9600, by omega⟩, Nat.div_add_mod' _ _⟩
  rw [shapeCast_apply _ _ _ (ix3 q 0 r) ((position q r).trans (e.trans (position1 i0).symm))]
  exact congrArg (fun k => words x (ix1 k)) (Fin.ext e)

variable (m : (ℓ : Loc nD τ sig) → Buf (Elt Ideal) ℓ)

/-- Point `t` of the grid reads rows `9600 t` to `9600 t + 9599` and writes block `t`. -/
theorem index (t : Fin grid0.N) : win0_0.index t = ![t.val, 0] ∧ win0_1.index t = ![t.val, 0, 0] :=
  (by decide +kernel : ∀ t : Fin grid0.N, win0_0.index t = ![t.val, 0] ∧ win0_1.index t = ![t.val, 0, 0]) t

/-- After the region, the output array holds the words of the argument's points. -/
theorem region (c : Dev nD) :
    (Gen.dats m 0 c).arrAt 1 (cfgs 0).N = blocks (m ((c.tc : Thread nD τ).loc main_arg0)) := by
  refine (Gen.dats m 0 c).arrAt_eq_of_covers 1 _ (by decide +kernel) fun t hf y => ?_
  blk_simp
  rw [Gen.after0_1]
  frame_out
  rw [payload]
  unfold blocks words
  congr 1 <;> blk_ext [Gen.iblk, index t]

end Cert.Voxel

end
-- ==== Proof.RefWords.lean ====
/-
  The reference's voxel index, point by point: the same words.
-/
module

public import proofs.«01_k».proof.Proof.Gen.ReferenceIdeal.Run
public import proofs.«01_k».proof.Proof.Voxel

@[expose] public section

set_option maxRecDepth 16384

noncomputable section

namespace Cert.Voxel

open Idealize.ShloMosaic Cert.ReferenceIdeal Cert.ReferenceIdeal.Gen

/-- One of the reference's three-entry tables, repeated for every point. -/
def rows {α : Type} (v : S3.Idx → α) : S1200000x3.Idx → α :=
  broadcastInDim S1200000x3 ![0, 1] bcast_S1x3_S1200000x3_0_1 (broadcastInDim S1x3 ![1] bcast_S3_S1x3_1 v)

/-- The reference's cell numbers: three per point. -/
def refCells (x : FVec Ideal S1200000x4 .f32) : IVec S1200000x3 32 :=
  fptosi 32 (Host.floor (Host.divf (subf (extractStridedSlice S1200000x3 ![0, 0] x slices_S1200000x4_S1200000x3_0_0)
    (rows fun i => FloatOps.ofBits .f32 (lit0 (S3.rowMajor i)))) (rows fun i => FloatOps.ofBits .f32 (lit1 (S3.rowMajor i)))))

/-- Whether each of a point's cell numbers lies on its axis. -/
def refOn (x : FVec Ideal S1200000x4 .f32) : IVec S1200000x3 1 :=
  andi (cmpi .sge (refCells x) (broadcastInDim S1200000x3 ![] bcast_S_S1200000x3 (constantI S_ 32 0#32)))
    (cmpi .slt (refCells x) (rows fun i => lit2 (S3.rowMajor i)))

/-- Whether all three of a point's cell numbers do. -/
def refAll (x : FVec Ideal S1200000x4 .f32) : IVec S1200000 1 :=
  Host.reduce IntOp.andi (refOn x) (constantI S_ 1 1#1) reducesTo_S1200000x3_S1200000_d1 h_S_

/-- The reference's clipped cell numbers. -/
def refClip (x : FVec Ideal S1200000x4 .f32) : IVec S1200000x3 32 :=
  minsi (broadcastInDim S1200000x3 ![0, 1] bcast_S1x3_S1200000x3_0_1
      (subi (broadcastInDim S1x3 ![1] bcast_S3_S1x3_1 fun i => lit2 (S3.rowMajor i)) (broadcastInDim S1x3 ![] bcast_S_S1x3 (constantI S_ 32 1#32))))
    (maxsi (broadcastInDim S1200000x3 ![] bcast_S_S1200000x3 (id (constantI S_ 32 0#32))) (refCells x))

/-- The extent of one axis, from the table of extents, repeated for every point. -/
def refExtent (off : Fin 1 → ℕ) (h : S3.Slices off S1) : IVec S1200000 32 :=
  broadcastInDim S1200000 ![] bcast_S_S1200000 (shapeCast S_ (extractStridedSlice S1 off (fun i => lit2 (S3.rowMajor i)) h) shapeCasts_S1_S_)

/-- One column of the clipped cell numbers. -/
def refCol (x : FVec Ideal S1200000x4 .f32) (off : Fin 2 → ℕ) (h : S1200000x3.Slices off S1200000x1) : IVec S1200000 32 :=
  shapeCast S1200000 (extractStridedSlice S1200000x1 off (refClip x) h) shapeCasts_S1200000x1_S1200000

/-- The reference's words. -/
def refWords (x : FVec Ideal S1200000x4 .f32) : IVec S1200000 32 :=
  select (refAll x)
    (addi (muli (addi (muli (refCol x ![0, 0] slices_S1200000x3_S1200000x1_0_0) (refExtent ![1] slices_S3_S1_1))
      (refCol x ![0, 1] slices_S1200000x3_S1200000x1_0_1)) (refExtent ![2] slices_S3_S1_2))
      (refCol x ![0, 2] slices_S1200000x3_S1200000x1_0_2))
    (broadcastInDim S1200000 ![] bcast_S_S1200000 (id (constantI S_ 32 4194304#32)))

/-- A repeated table at a point and an axis is the table at the axis. -/
theorem rows_apply {α : Type} (v : S3.Idx → α) (r : Fin 1200000) (a : Fin 3) : rows v (ix2 r a) = v (ix1 a) := by
  pointwise [rows]

/-- The row-major position of an index of a vector of three is the index. -/
theorem rowMajor3 (a : Fin 3) : S3.rowMajor (ix1 a) = a := Fin.ext (Shape.rowMajor_val_one (d := ![3]) _)

/-- A cell number of the reference is the floor of the quotient at its own axis' start and width. -/
theorem refCells_apply (x : FVec Ideal S1200000x4 .f32) (r : Fin 1200000) (a : Fin 3) :
    refCells x (ix2 r a) = cell (Ideal.ofBits .f32 (lit0 a)) (Ideal.ofBits .f32 (lit1 a)) (x (ix2 r ⟨a, by omega⟩)) := by
  pointwise [refCells, rows_apply, rowMajor3]
  rfl

/-- A point's clipped cell number. -/
theorem refClip_apply (x : FVec Ideal S1200000x4 .f32) (r : Fin 1200000) (a : Fin 3) :
    refClip x (ix2 r a) = clip (IntOp.subi (lit2 a) 1#32) (refCells x (ix2 r a)) := by
  pointwise [refClip, rowMajor3]
  rfl

/-- Whether a point's cell number lies on its axis. -/
theorem refOn_apply (x : FVec Ideal S1200000x4 .f32) (r : Fin 1200000) (a : Fin 3) :
    refOn x (ix2 r a) = onAxis (lit2 a) (refCells x (ix2 r a)) := by
  pointwise [refOn, rowMajor3, rows_apply]
  rfl

/-- The conjunction of three bits, taken over the set of axes from 1, is their conjunction in order. -/
theorem fold_three (f : Fin 3 → BitVec 1) :
    Finset.fold IntOp.andi 1#1 f Finset.univ = IntOp.andi (IntOp.andi (f 0) (f 1)) (f 2) := by
  rw [show (Finset.univ : Finset (Fin 3)) = {0, 1, 2} from rfl, Finset.fold_insert (by decide), Finset.fold_insert (by decide),
    Finset.fold_singleton]
  generalize f 0 = p
  generalize f 1 = q
  generalize f 2 = s
  revert p q s
  decide

/-- A point is inside the grid when it is on all three axes. -/
theorem refAll_apply (x : FVec Ideal S1200000x4 .f32) (r : Fin 1200000) :
    refAll x (ix1 r) = IntOp.andi (IntOp.andi (refOn x (ix2 r 0)) (refOn x (ix2 r 1))) (refOn x (ix2 r 2)) := by
  pointwise [refAll]
  exact fold_three _

/-- The reference's word of point `r` is the word of its three coordinates. -/
theorem refWords_apply (x : FVec Ideal S1200000x4 .f32) (r : Fin 1200000) :
    refWords x (ix1 r) = point (x (ix2 r 0)) (x (ix2 r 1)) (x (ix2 r 2)) := by
  pointwise [refWords, refCol, refExtent, refAll_apply, refOn_apply, refClip_apply, rowMajor3]
  rw [refCells_apply, refCells_apply, refCells_apply]
  rfl

end Cert.Voxel

end
-- ==== Proof.Tail.lean ====
/-
  What both programs compute from the words: the number of points per cell and the mean of each cell's points.
-/
module

public import proofs.«01_k».proof.Proof.Words
public import proofs.«01_k».proof.Proof.RefWords

@[expose] public section

set_option maxRecDepth 16384

noncomputable section

namespace Cert.Voxel

open Idealize.ShloMosaic Idealize.ShloMosaic.Pipeline Idealize.SL.Sem Cert.KernelIdeal Cert.KernelIdeal.Gen

/-- The number of points per word, from zero, by adding a one for each point; the last place counts the points outside. -/
def tally (w : IVec S1200000 32) : FVec Ideal S4194305 .f32 :=
  Host.scatterAdd scatter_S4194305_S1200000x1_S1200000_n_0_0_1
    (broadcastInDim S4194305 ![] bcast_S_S4194305 (constant S_ .f32 0x00000000#32))
    (broadcastInDim S1200000x1 ![0] bcast_S1200000_S1200000x1_0 w)
    (broadcastInDim S1200000 ![] bcast_S_S1200000 (constant S_ .f32 0x3F800000#32))

/-- The sum of the points per word, column by column. -/
def total (w : IVec S1200000 32) (x : FVec Ideal S1200000x4 .f32) : FVec Ideal S4194305x4 .f32 :=
  Host.scatterAdd scatter_S4194305x4_S1200000x1_S1200000x4_1_0_0_1
    (broadcastInDim S4194305x4 ![] bcast_S_S4194305x4 (constant S_ .f32 0x00000000#32))
    (broadcastInDim S1200000x1 ![0] bcast_S1200000_S1200000x1_0 w) x

/-- The number of points per cell: the tally without its last place. -/
def counts (w : IVec S1200000 32) : FVec Ideal S4194304 .f32 :=
  extractStridedSlice S4194304 ![0] (tally w) slices_S4194305_S4194304_0

/-- The mean of each cell's points: their sum over their number, or over one where there is none. -/
def means (w : IVec S1200000 32) (x : FVec Ideal S1200000x4 .f32) : FVec Ideal S4194304x4 .f32 :=
  Host.divf (extractStridedSlice S4194304x4 ![0, 0] (total w x) slices_S4194305x4_S4194304x4_0_0)
    (broadcastInDim S4194304x4 ![0, 1] bcast_S4194304x1_S4194304x4_0_1 (broadcastInDim S4194304x1 ![0] bcast_S4194304_S4194304x1_0
      (extractStridedSlice S4194304 ![0]
        (maximumf (tally w) (broadcastInDim S4194305 ![] bcast_S_S4194305 (constant S_ .f32 0x3F800000#32))) slices_S4194305_S4194304_0)))

/-- The reference's words are the words. -/
theorem refWords_eq (x : FVec Ideal S1200000x4 .f32) : refWords x = words x := by
  funext i
  idx_vars i
  exact refWords_apply x i0

section Reference

variable (m : (ℓ : Loc Cert.ReferenceIdeal.nD Cert.ReferenceIdeal.τ Cert.ReferenceIdeal.sig) → Buf (Elt Ideal) ℓ)
  (c : Dev Cert.ReferenceIdeal.nD)

/-- The reference's second result is the counts of its words. -/
theorem ref_counts : Cert.ReferenceIdeal.Value.res_main_v51 m c
    = counts (refWords (m ((c.tc : Thread Cert.ReferenceIdeal.nD Cert.ReferenceIdeal.τ).loc Cert.ReferenceIdeal.main_arg0))) := rfl

/-- The reference's first result is the means of its words. -/
theorem ref_means : Cert.ReferenceIdeal.Value.res_main_v50 m c
    = means (refWords (m ((c.tc : Thread Cert.ReferenceIdeal.nD Cert.ReferenceIdeal.τ).loc Cert.ReferenceIdeal.main_arg0)))
        (m ((c.tc : Thread Cert.ReferenceIdeal.nD Cert.ReferenceIdeal.τ).loc Cert.ReferenceIdeal.main_arg0)) := rfl

/-- The reference's run: its results are the means and the counts of the words of its points, and its argument is
    unchanged. -/
theorem reference_run (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v50)
          = means (words (m ((c.tc : Thread Cert.ReferenceIdeal.nD Cert.ReferenceIdeal.τ).loc Cert.ReferenceIdeal.main_arg0)))
              (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v51)
          = counts (words (m ((c.tc : Thread Cert.ReferenceIdeal.nD Cert.ReferenceIdeal.τ).loc Cert.ReferenceIdeal.main_arg0)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run _ _ _).mono (fun _ h c => ⟨(h c).1.trans ((ref_means m c).trans (congrArg (means · _) (refWords_eq _))),
    (h c).2.1.trans ((ref_counts m c).trans (congrArg counts (refWords_eq _))), (h c).2.2⟩) (Cert.ReferenceIdeal.Value.run m g)

end Reference

section Kernel

/-- The operations after the region, from any contents `W`, leave the means of the words that the region's array holds. -/
theorem tail_means (W : Valuation τ sig (Elt Ideal)) : StableHlo.after hostOps1 W (Proc.devRef .tc main_v15)
    = means (shapeCast S1200000 (W (Proc.devRef .tc main_v0)) shapeCasts_S125x1x9600_S1200000) (W (Proc.devRef .tc main_arg0)) := by
  after_results_simp
  rfl

/-- The operations after the region, from any contents `W`, leave the counts of the words that the region's array holds. -/
theorem tail_counts (W : Valuation τ sig (Elt Ideal)) : StableHlo.after hostOps1 W (Proc.devRef .tc main_v16)
    = counts (shapeCast S1200000 (W (Proc.devRef .tc main_v0)) shapeCasts_S125x1x9600_S1200000) := by
  after_results_simp
  rfl

variable (m : (ℓ : Loc nD τ sig) → Buf (Elt Ideal) ℓ) (g : Dev nD → PrngReg)

/-- What the operations after the region start from: the windows' arrays as the region leaves them. -/
def entry (c : Dev nD) : Valuation τ sig (Elt Ideal) :=
  withArrays (cfgs 0).spec c (V0 m c) fun w => (dats m 0 c).arrAt w (cfgs 0).N

/-- There the region's output array holds the words, block by block. -/
theorem entry_out (c : Dev nD) : entry m c (Proc.devRef .tc main_v0) = blocks (m ((c.tc : Thread nD τ).loc main_arg0)) :=
  (withArrays_arr (cfgs 0).spec (by decide) c (V0 m c) (fun w => (dats m 0 c).arrAt w (cfgs 0).N) 1).trans (region m c)

/-- There the argument is as launched. -/
theorem entry_arg (c : Dev nD) : entry m c (Proc.devRef .tc main_arg0) = m ((c.tc : Thread nD τ).loc main_arg0) :=
  (withArrays_arr (cfgs 0).spec (by decide) c (V0 m c) (fun w => (dats m 0 c).arrAt w (cfgs 0).N) 0).trans
    ((dats m 0 c).arrAt_in 0 rfl _)

/-- The kernel's run: its results are the means and the counts of the words of its points, and its argument is unchanged. -/
theorem kernel_run : θ_run (defs (F := Ideal)) (onTc (τ := τ) (main (F := Ideal))) ⟨m, fun _ => 0, g⟩ (fun r => ∀ c : Dev nD,
      r.2.mem ((c.tc : Thread nD τ).loc main_v15) = means (words (m ((c.tc : Thread nD τ).loc main_arg0))) (m ((c.tc : Thread nD τ).loc main_arg0))
      ∧ r.2.mem ((c.tc : Thread nD τ).loc main_v16) = counts (words (m ((c.tc : Thread nD τ).loc main_arg0)))
      ∧ r.2.mem ((c.tc : Thread nD τ).loc main_arg0) = m ((c.tc : Thread nD τ).loc main_arg0)) := by
  run_from Gen.run_main m g
  · exact (tail_means (entry m c)).trans (by rw [entry_out, entry_arg, shapeCast_blocks])
  · exact (tail_counts (entry m c)).trans (by rw [entry_out, shapeCast_blocks])

end Kernel

end Cert.Voxel

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The five claims: the three programs run and leave their argument and every counter as they were; the named reciprocal is
    sanctioned; and the kernel's means and counts are the reference's. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => (θ_run _ _ _).mono (fun r h => ⟨fun c => (h c).2.2, sem_eq_zero_of_no_sems rfl r.2⟩) (Cert.Voxel.reference_run m g),
  IdealRules.named_const.statement Cert.KernelIdeal.κ "inv_voxel" .f32 0x40A00000#32 ((67108864 / 13421773 : ℝ) : EReal) rfl,
  fun m g m' g' _ hagree => ⟨_, _, Cert.Voxel.kernel_run m g, (θ_run _ _ _).mono
    (fun _ h c => ⟨(h c).1.trans (congrArg (fun x => Cert.Voxel.means (Cert.Voxel.words x) x) (hagree c)),
      (h c).2.1.trans (congrArg (fun x => Cert.Voxel.counts (Cert.Voxel.words x)) (hagree c)), (h c).2.2⟩)
    (Cert.Voxel.reference_run m' g')⟩⟩

end Cert.Proof

end
